-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x5120 : Shape := ⟨3, ![4, 512, 5120]⟩
abbrev S4x512x160 : Shape := ⟨3, ![4, 512, 160]⟩
abbrev S5120x128 : Shape := ⟨2, ![5120, 128]⟩
abbrev S4x512x2 : Shape := ⟨3, ![4, 512, 2]⟩
abbrev S2048x5120 : Shape := ⟨2, ![2048, 5120]⟩
abbrev S2048x160 : Shape := ⟨2, ![2048, 160]⟩
abbrev S128x5120 : Shape := ⟨2, ![128, 5120]⟩
abbrev S2048x2 : Shape := ⟨2, ![2048, 2]⟩
abbrev S2048x128 : Shape := ⟨2, ![2048, 128]⟩
abbrev S256x5120 : Shape := ⟨2, ![256, 5120]⟩
abbrev S256x160 : Shape := ⟨2, ![256, 160]⟩
abbrev S256x2 : Shape := ⟨2, ![256, 2]⟩
abbrev S256x128 : Shape := ⟨2, ![256, 128]⟩
abbrev S256x96 : Shape := ⟨2, ![256, 96]⟩
abbrev S256x256 : Shape := ⟨2, ![256, 256]⟩
abbrev S256x128x1 : Shape := ⟨3, ![256, 128, 1]⟩
abbrev S256x1 : Shape := ⟨2, ![256, 1]⟩
abbrev S256 : Shape := ⟨1, ![256]⟩
abbrev S128x256 : Shape := ⟨2, ![128, 256]⟩

abbrev nBuf : Space → Nat
  | .hbm => 13
  | .vmem => 17
  | .smem => 0
  | _ => 0

abbrev bufTy : (tb : Table) → Fin (tcTables nBuf tb) → BufTy
  | .hbm, ⟨0, _⟩ => ⟨S4x512x5120, .fp8e4m3⟩
  | .hbm, ⟨1, _⟩ => ⟨S4x512x160, .f32⟩
  | .hbm, ⟨2, _⟩ => ⟨S5120x128, .bf16⟩
  | .hbm, ⟨3, _⟩ => ⟨S4x512x2, .i32⟩
  | .hbm, ⟨4, _⟩ => ⟨S4x512x2, .bf16⟩
  | .hbm, ⟨5, _⟩ => ⟨S2048x5120, .fp8e4m3⟩
  | .hbm, ⟨6, _⟩ => ⟨S2048x160, .f32⟩
  | .hbm, ⟨7, _⟩ => ⟨S128x5120, .bf16⟩
  | .hbm, ⟨8, _⟩ => ⟨S2048x2, .i32⟩
  | .hbm, ⟨9, _⟩ => ⟨S2048x2, .bf16⟩
  | .hbm, ⟨10, _⟩ => ⟨S2048x5120, .bf16⟩
  | .hbm, ⟨11, _⟩ => ⟨S5120x128, .f32⟩
  | .hbm, ⟨12, _⟩ => ⟨S2048x128, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S256x160, .f32⟩
  | .local _ .vmem, ⟨3, _⟩ => ⟨S256x160, .f32⟩
  | .local _ .vmem, ⟨4, _⟩ => ⟨S5120x128, .bf16⟩
  | .local _ .vmem, ⟨5, _⟩ => ⟨S128x5120, .bf16⟩
  | .local _ .vmem, ⟨6, _⟩ => ⟨S256x2, .i32⟩
  | .local _ .vmem, ⟨7, _⟩ => ⟨S256x2, .i32⟩
  | .local _ .vmem, ⟨8, _⟩ => ⟨S256x2, .bf16⟩
  | .local _ .vmem, ⟨9, _⟩ => ⟨S256x2, .bf16⟩
  | .local _ .vmem, ⟨10, _⟩ => ⟨S256x5120, .bf16⟩
  | .local _ .vmem, ⟨11, _⟩ => ⟨S256x5120, .bf16⟩
  | .local _ .vmem, ⟨12, _⟩ => ⟨S5120x128, .f32⟩
  | .local _ .vmem, ⟨13, _⟩ => ⟨S256x128, .f32⟩
  | .local _ .vmem, ⟨14, _⟩ => ⟨S256x128, .f32⟩
  | .local _ .vmem, ⟨15, _⟩ => ⟨S256x5120, .bf16⟩
  | .local _ .vmem, ⟨16, _⟩ => ⟨S128x5120, .f32⟩
  | _, _ => ⟨S4x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v858 : BitVec 1 := Scalar.cmpi .eq arg0 c7_i32
  let v859 : BitVec 32 := Scalar.extui v858
  let c0_i32_247 : BitVec 32 := 0#32
  let v860 : BitVec 1 := Scalar.cmpi .ne v859 c0_i32_247
  v860

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x512x5120 : Shape := ⟨3, ![4, 512, 5120]⟩
abbrev S4x512x160 : Shape := ⟨3, ![4, 512, 160]⟩
abbrev S5120x128 : Shape := ⟨2, ![5120, 128]⟩
abbrev S4x512x2 : Shape := ⟨3, ![4, 512, 2]⟩
abbrev S4x512x160x32 : Shape := ⟨4, ![4, 512, 160, 32]⟩
abbrev S2048x5120 : Shape := ⟨2, ![2048, 5120]⟩
abbrev S2048x2 : Shape := ⟨2, ![2048, 2]⟩
abbrev S2048x128 : Shape := ⟨2, ![2048, 128]⟩
abbrev S2048x2x1 : Shape := ⟨3, ![2048, 2, 1]⟩
abbrev S2048x2x128 : Shape := ⟨3, ![2048, 2, 128]⟩
abbrev S2048x1x128 : Shape := ⟨3, ![2048, 1, 128]⟩
abbrev S2048 : Shape := ⟨1, ![2048]⟩
abbrev S2048x1 : Shape := ⟨2, ![2048, 1]⟩

abbrev nBuf : Space → Nat
  | .hbm => 14
  | .vmem => 8
  | .smem => 0
  | _ => 0

abbrev bufTy : (tb : Table) → Fin (tcTables nBuf tb) → BufTy
  | .hbm, ⟨0, _⟩ => ⟨S4x512x5120, .fp8e4m3⟩
  | .hbm, ⟨1, _⟩ => ⟨S4x512x160, .f32⟩
  | .hbm, ⟨2, _⟩ => ⟨S5120x128, .bf16⟩
  | .hbm, ⟨3, _⟩ => ⟨S4x512x2, .i32⟩
  | .hbm, ⟨4, _⟩ => ⟨S4x512x2, .bf16⟩
  | .hbm, ⟨5, _⟩ => ⟨S4x512x160x32, .f32⟩
  | .hbm, ⟨6, _⟩ => ⟨S4x512x5120, .f32⟩
  | .hbm, ⟨7, _⟩ => ⟨S2048x5120, .fp8e4m3⟩
  | .hbm, ⟨8, _⟩ => ⟨S2048x5120, .f32⟩
  | .hbm, ⟨9, _⟩ => ⟨S2048x2, .i32⟩
  | .hbm, ⟨10, _⟩ => ⟨S2048x2, .bf16⟩
  | .hbm, ⟨11, _⟩ => ⟨S2048x5120, .bf16⟩
  | .hbm, ⟨12, _⟩ => ⟨S5120x128, .f32⟩
  | .hbm, ⟨13, _⟩ => ⟨S2048x128, .f32⟩
  | .local _ .vmem, ⟨0, _⟩ => ⟨S2048x5120, .fp8e4m3⟩
  | .local _ .vmem, ⟨1, _⟩ => ⟨S2048x5120, .f32⟩
  | .local _ .vmem, ⟨2, _⟩ => ⟨S5120x128, .bf16⟩
  | .local _ .vmem, ⟨3, _⟩ => ⟨S2048x2, .i32⟩
  | .local _ .vmem, ⟨4, _⟩ => ⟨S2048x2, .bf16⟩
  | .local _ .vmem, ⟨5, _⟩ => ⟨S2048x5120, .bf16⟩
  | .local _ .vmem, ⟨6, _⟩ => ⟨S5120x128, .f32⟩
  | .local _ .vmem, ⟨7, _⟩ => ⟨S2048x128, .f32⟩
  | _, _ => ⟨S4x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Row.lean ====
module

public import Idealize.ShloMosaic.Lib.Pipeline.ValueKit

/-! # One row of the router backward, over the extended reals

Both programs treat the rows one by one until the last product. For a row with logits `l`, expert ids `i0`, `i1` and
upstream gate gradients `g0`, `g1` this module names the gradient of the logits, `dlRow`. It also evaluates the maximum
of two values as the reference takes it. -/

@[expose] public section

set_option maxRecDepth 16384

noncomputable section

namespace Cert.Row

open Idealize.ShloMosaic

/-- `v` where the expert id `i` is `e`, zero elsewhere. -/
def hot (i : BitVec 32) (e : Fin 128) (v : EReal) : EReal :=
  Scalar.select (IntOp.cmpi .eq i (BitVec.ofNat 32 e.val)) v (0 : EReal)

/-- The logit of expert `i`: the sum over the experts of the logits, all but `i`'s replaced by zero. -/
def pick (l : Fin 128 → EReal) (i : BitVec 32) : EReal := ∑ e : Fin 128, hot i e (l e)

/-- The softmax over the two values `a`, `b`, at the value `x`. -/
def gate (a b x : EReal) : EReal := Ideal.div (Ideal.exp (x - max a b)) (Ideal.exp (a - max a b) + Ideal.exp (b - max a b))

/-- The gradient of the two-way softmax of `a`, `b` at the value `x` whose upstream gradient is `g`; the upstream
    gradients of `a` and `b` are `g0` and `g1`. -/
def dsel (a b g0 g1 x g : EReal) : EReal := gate a b x * (g - (gate a b a * g0 + gate a b b * g1))

/-- The gradient of a row's logits at expert `e`: each of the two chosen experts' gradients at its own id. -/
def dlRow (l : Fin 128 → EReal) (i0 i1 : BitVec 32) (g0 g1 : EReal) (e : Fin 128) : EReal :=
  hot i0 e (dsel (pick l i0) (pick l i1) g0 g1 (pick l i0) g0) + hot i1 e (dsel (pick l i0) (pick l i1) g0 g1 (pick l i1) g1)

/-- A row's logits from the row `x` of the input and the weights `w`. -/
def logits (x : Fin 5120 → EReal) (w : Fin 5120 → Fin 128 → EReal) (e : Fin 128) : EReal := ∑ d : Fin 5120, x d * w d e

/-- The bit pattern of negative infinity reads as the least extended real. -/
theorem ofBits_neg_inf : Ideal.ofBits .f32 0xFF800000#32 = (⊥ : EReal) := by
  simp [Ideal.ofBits, Ideal.ieee]

/-- The maximum over two entries, taken from negative infinity, is the larger of the two. -/
theorem max_fold_two (f : Fin 2 → EReal) :
    max (Ideal.ofBits .f32 0xFF800000#32) (Finset.fold max (Ideal.ofBits .f32 0xFF800000#32) f Finset.univ) = max (f 0) (f 1) := by
  rw [ofBits_neg_inf, show (Finset.univ : Finset (Fin 2)) = {0, 1} from rfl, Finset.fold_insert (by decide), Finset.fold_singleton]
  simp

end Cert.Row

end
-- ==== Proof.BlockRow.lean ====
module

public import proofs.«01_k».proof.Proof.Gen.KernelIdeal.Skeleton
public import proofs.«01_k».proof.Proof.Row

/-! # What one block of the kernel computes

The payloads of the kernel's stores, read at an index, as the row functions of `Row`; and what one of the forty column
chunks stores into the dequantized block: the code times the scale of its group of 32 columns. -/

@[expose] public section

set_option maxRecDepth 16384

noncomputable section

namespace Cert.KernelIdeal.Value

open Idealize.ShloMosaic Cert.KernelIdeal Cert.KernelIdeal.Gen Cert.Row

/-- The dequantized block: each code times the scale of its group of 32 columns. -/
def xbBlock (codes : S256x5120.Idx → EReal) (scales : S256x160.Idx → EReal) : S256x5120.Idx → EReal := fun y =>
  codes y * scales (ix2 (y 0) ⟨(y 1).val / 32, by have := (y 1).isLt; simp at this; omega⟩)

/-- The kernel's lane numbers are the lane divided by 32, rounded down. -/
theorem lane_div (y : S256x128.Idx) : k0_pay5 y = BitVec.ofNat 32 ((y 1).val / 32) := by
  pointwise [k0_pay5]
  generalize y 1 = l
  revert l
  decide +kernel

/-- A lane number moved by a constant of at most 124 is never negative, so the gather reads at exactly that lane. -/
theorem lane_word (y : S256x128.Idx) (c : BitVec 32) (hc : c.toNat ≤ 124) :
    (Scalar.select (IntOp.cmpi .slt (IntOp.addi (k0_pay5 y) c) 0#32) (IntOp.addi (IntOp.addi (k0_pay5 y) c) 128#32)
      (IntOp.addi (k0_pay5 y) c)).toNat = (y 1).val / 32 + c.toNat := by
  rw [lane_div]
  obtain ⟨n, hn⟩ : ∃ n : Fin 125, c = BitVec.ofNat 32 n.val := ⟨⟨c.toNat, by omega⟩, by simp⟩
  subst hn
  have h : (y 1).val / 32 < 4 := by have := (y 1).isLt; simp at this; omega
  generalize (y 1).val / 32 = q at h
  obtain ⟨q, rfl⟩ : ∃ k : Fin 4, q = k.val := ⟨⟨q, h⟩, rfl⟩
  clear hc h
  revert n q
  decide +kernel

/-- The gradient of the logits that a block stores is `dlRow` of each row. -/
theorem pay78_apply (l : FVec Ideal S256x128 .f32) (i0 i1 : Vec Ideal S256x1 .i32) (g : Vec Ideal S256x2 .bf16) (y : S256x128.Idx) :
    k0_pay78 (F := Ideal) l (iota .tc S256x128 32 [1] iota_S256x128_d1_w32) i0 i1 g y
      = dlRow (fun e => l (ix2 (y 0) e)) (i0 (ix2 (y 0) 0)) (i1 (ix2 (y 0) 0)) (g (ix2 (y 0) 0)) (g (ix2 (y 0) 1)) (y 1) := by
  pointwise [k0_pay78]
  rfl

/-- The same, after the narrowing of its format, which is the identity here. -/
theorem pay79_apply (l : FVec Ideal S256x128 .f32) (i0 i1 : Vec Ideal S256x1 .i32) (g : Vec Ideal S256x2 .bf16) (y : S256x128.Idx) :
    k0_pay79 (F := Ideal) l (iota .tc S256x128 32 [1] iota_S256x128_d1_w32) i0 i1 g y
      = dlRow (fun e => l (ix2 (y 0) e)) (i0 (ix2 (y 0) 0)) (i1 (ix2 (y 0) 0)) (g (ix2 (y 0) 0)) (g (ix2 (y 0) 1)) (y 1) :=
  pay78_apply l i0 i1 g y

/-- The logits of a block: the product of its rows with the weights. -/
theorem pay77_apply (x : Vec Ideal S256x5120 .bf16) (w : Vec Ideal S5120x128 .bf16) (y : S256x128.Idx) :
    k0_pay77 (F := Ideal) x w y = logits (fun d => x (ix2 (y 0) d)) (fun d e => w (ix2 d e)) (y 1) := by
  pointwise [k0_pay77]
  rfl

/-- The gradient of the input that a block stores: the product of the logits' gradient with the transposed weights. -/
theorem pay1_apply (a : FVec Ideal S256x128 .bf16) (wt : Vec Ideal S128x5120 .bf16) (y : S256x5120.Idx) :
    k0_pay1 (F := Ideal) a wt y = ∑ e : Fin 128, (a (ix2 (y 0) e) * wt (ix2 e (y 1)) : EReal) := by
  pointwise [k0_pay1]

/-- The accumulation: what it held and the product of the block's logits' gradient, transposed, with the block. -/
theorem pay2_apply (a : FVec Ideal S256x128 .bf16) (acc : Vec Ideal S128x5120 .f32) (x : Vec Ideal S256x5120 .bf16) (y : S128x5120.Idx) :
    k0_pay2 (F := Ideal) a acc x y = (acc y + ∑ r : Fin 256, a (ix2 r (y 0)) * x (ix2 r (y 1)) : EReal) := by
  pointwise [k0_pay2]

end Cert.KernelIdeal.Value

end
-- ==== Proof.Chunk.lean ====
module

public import proofs.«01_k».proof.Proof.BlockRow
public import Idealize.ShloMosaic.Lib.Pipeline.ReadBack

/-! # The dequantized block, stored forty column chunks at a time and read back whole

`chunk` is the computation of one column chunk, at any offset; `chunk_piece` says that what it stores is the chunk's part
of `xbBlock`; `readCov_pieces` says that a block covered by such parts reads back as `xbBlock`. -/

@[expose] public section

set_option maxRecDepth 16384

noncomputable section

namespace Cert.KernelIdeal.Value

open Idealize.ShloMosaic Cert.KernelIdeal Cert.KernelIdeal.Gen

/-- One column chunk: the scales at the lanes `lane + c` of the 128 scales from column `o 1` on, times the codes `v`. -/
def chunk (o : Fin 2 → ℕ) (hs : S256x256.Slices o S256x128) (c : BitVec 32) (lane : IVec S256x128 32) (sc : FVec Ideal S256x256 .f32)
    (v : Vec Ideal S256x128 .fp8e4m3) : FVec Ideal S256x128 .bf16 :=
  have e : IVec S256x128 32 := addi lane (broadcast S256x128 c)
  have f : IVec S256x128 32 := select (cmpi .slt e (broadcast S256x128 0#32)) (addi e (broadcast S256x128 128#32)) e
  have g : FVec Ideal S256x128 .f32 := dynamicGather 1 (extractStridedSlice S256x128 o sc hs)
    (shapeCast S256x128 (shapeCast S256x128x1 f shapeCasts_S256x128_S256x128x1) shapeCasts_S256x128x1_S256x128)
  shapeCast S256x128 (mulf (extf .bf16 (shapeCast S256x128 v shapeCasts_S256x128_S256x128) bitsLt_fp8e4m3_bf16)
    (truncf .bf16 g bitsLt_bf16_f32)) shapeCasts_S256x128_S256x128

/-- The 128 scales that the chunk at column `off` reads lie within the padded 256. -/
theorem chunk_slices (off : ℕ) (h : off < 5120) : S256x256.Slices ![0, off / 32 / 128 * 128] S256x128 := by
  have : off / 32 / 128 * 128 = 0 ∨ off / 32 / 128 * 128 = 128 := by omega
  rcases this with e | e <;> rw [e]
  · exact slices_S256x256_o0_0_S256x128
  · exact slices_S256x256_o0_128_S256x128

/-- What the chunk at column `off` stores, at `x`, is the dequantized block there. -/
theorem chunk_piece (off : ℕ) (h : off < 5120 ∧ off % 128 = 0) (inb : ∀ a, (![0, off] : Fin 2 → ℕ) a + (![256, 128] : Fin 2 → ℕ) a ≤ S256x5120.size a)
    (codes : Vec Ideal S256x5120 .fp8e4m3) (scales : Vec Ideal S256x160 .f32) (x : S256x128.Idx) :
    chunk ![0, off / 32 / 128 * 128] (chunk_slices off h.1) (BitVec.ofNat 32 (off / 32 % 128)) k0_pay5 (k0_pay6 scales)
        (View.ld codes (Rect.unit (s := S256x5120) ![0, off] ![256, 128] inb)) x
      = xbBlock codes scales ((Rect.unit (s := S256x5120) ![0, off] ![256, 128] inb).emb x) := by
  have hx1 : (x 1).val < 128 := (x 1).isLt
  have hc : (BitVec.ofNat 32 (off / 32 % 128)).toNat = off / 32 % 128 := by simp; omega
  have hl := lane_word x (BitVec.ofNat 32 (off / 32 % 128)) (by omega)
  unfold xbBlock
  pointwise [chunk, k0_pay6]
  have hlt : off / 32 / 128 * 128 + (x 1 / 32 + off / 32 % 128 : ℕ) % 128 < 160 := by omega
  rw [hc] at hl
  simp only [hl]
  rw [dif_pos hlt]
  have hemb : (Rect.unit (s := S256x5120) ![0, off] ![256, 128] inb).emb x = ix2 (x 0) ⟨off + (x 1).val, by omega⟩ := by
    blk_ext
  rw [hemb]
  congr 2
  blk_ext

/-- A block covered by stores that are parts of `G` reads back as `G`. -/
theorem readCov_pieces (v : View sig .tc .vmem S256x5120 .bf16) (L : List (View.Piece (Elt Ideal) S256x5120 .bf16))
    (G : S256x5120.Idx → Elt Ideal .bf16) (hp : View.PiecesOf G L) (hc : ∀ y : S256x5120.Idx, ∃ p ∈ L, y ∈ p.1.set) :
    v.readCov L (Rect.unit (s := S256x5120) ![0, 0] ![256, 5120] inb_S256x5120_S256x5120_0_0).toLoadRect = G := by
  rw [View.readCov_eq_canon_ld v L _ hc, show View.canon L = G from funext fun y => View.canon_apply_of_pieces G L hp.mem y (hc y)]
  exact View.ld_unit_lit _ _ (by decide)

end Cert.KernelIdeal.Value

end
-- ==== Proof.BlockOuts.lean ====
module

public import proofs.«01_k».proof.Proof.Gen.KernelIdeal.Value
public import proofs.«01_k».proof.Proof.Chunk

/-! # What each grid point leaves in its buffers

The dequantized block is read back from its scratch as `xbBlock`; with it the point's two blocks of results and the
accumulated gradient of the weights are the payloads of `BlockRow` at the point's input blocks. -/

@[expose] public section

set_option maxRecDepth 16384

noncomputable section

namespace Cert.KernelIdeal.Value

open Idealize.ShloMosaic Idealize.ShloMosaic.Tactic Idealize.ShloMosaic.TcCoe Cert.KernelIdeal Cert.KernelIdeal.Gen Cert.Row

variable (m : (ℓ : Loc nD τ sig) → Buf (Elt Ideal) ℓ)

/-- The gradient of a block's logits, row by row. -/
def dlBlock (codes : S256x5120.Idx → EReal) (scales : S256x160.Idx → EReal) (w : S5120x128.Idx → EReal)
    (ids : S256x2.Idx → BitVec 32) (g : S256x2.Idx → EReal) : S256x128.Idx → EReal := fun y =>
  dlRow (logits (fun d => xbBlock codes scales (ix2 (y 0) d)) (fun d e => w (ix2 d e)))
    (ids (ix2 (y 0) 0)) (ids (ix2 (y 0) 1)) (g (ix2 (y 0) 0)) (g (ix2 (y 0) 1)) (y 1)

/-- The stored gradient of the logits is `dlBlock`. -/
theorem pay78_eq (codes : S256x5120.Idx → EReal) (scales : S256x160.Idx → EReal) (w : S5120x128.Idx → EReal)
    (ids : S256x2.Idx → BitVec 32) (g : S256x2.Idx → EReal) :
    k0_pay78 (F := Ideal) (k0_pay77 (F := Ideal) (xbBlock codes scales) w) (iota .tc S256x128 32 [1] iota_S256x128_d1_w32)
      (View.ld (Val := Elt Ideal) (e' := .i32) ids (Rect.unit (s := S256x2) ![0, 0] ![256, 1] inb_S256x2_S256x1_0_0))
      (View.ld (Val := Elt Ideal) (e' := .i32) ids (Rect.unit (s := S256x2) ![0, 1] ![256, 1] inb_S256x2_S256x1_0_1)) g
      = dlBlock codes scales w ids g := by
  funext y
  rw [pay78_apply]
  unfold dlBlock
  simp only [pay77_apply]
  pointwise []
  blk_ext

/-- So is its narrowed copy, which the two products read. -/
theorem pay79_eq (codes : S256x5120.Idx → EReal) (scales : S256x160.Idx → EReal) (w : S5120x128.Idx → EReal)
    (ids : S256x2.Idx → BitVec 32) (g : S256x2.Idx → EReal) :
    k0_pay79 (F := Ideal) (k0_pay77 (F := Ideal) (xbBlock codes scales) w) (iota .tc S256x128 32 [1] iota_S256x128_d1_w32)
      (View.ld (Val := Elt Ideal) (e' := .i32) ids (Rect.unit (s := S256x2) ![0, 0] ![256, 1] inb_S256x2_S256x1_0_0))
      (View.ld (Val := Elt Ideal) (e' := .i32) ids (Rect.unit (s := S256x2) ![0, 1] ![256, 1] inb_S256x2_S256x1_0_1)) g
      = dlBlock codes scales w ids g :=
  pay78_eq codes scales w ids g

/-- The gradient of the logits at point `t`'s rows. -/
abbrev dlAt (c : Dev nD) (t : Fin cfg0.N) : S256x128.Idx → EReal :=
  dlBlock (iblk m c 0 t) (iblk m c 1 t) (iblk m c 2 t) (iblk m c 4 t) (iblk m c 5 t)

set_option maxHeartbeats 2000000 in
/-- At every point the two row-wise results' blocks are the payloads at the point's inputs. -/
theorem outs_rows (c : Dev nD) (t : Fin cfg0.N) :
    (outsAt0 m c t.val t.isLt).1 = k0_pay1 (F := Ideal) (dlAt m c t) (iblk m c 3 t) ∧ (outsAt0 m c t.val t.isLt).2.2.1 = dlAt m c t := by
  by_cases h0 : t.val % 8 = 0
  on_goal 2 => by_cases h1 : t.val % 8 = 7
  on_goal 1 => rw [outsAt0_A m c t h0 (by omega)]
  on_goal 2 => rw [outsAt0_C m c t h0 h1]
  on_goal 3 => rw [outsAt0_B m c t h0 h1]
  all_goals
    refine ⟨?_, ?_⟩
    all_goals
      frame_out
      rw [readCov_pieces _ _ (xbBlock (iblk m c 0 t) (iblk m c 1 t)) ?hp ?hc]
      case hp =>
        iterate 40 refine ⟨fun x => chunk_piece _ (by decide) _ _ _ x, ?_⟩
        trivial
      case hc => exact View.cover_of_tiledL _ S256x128.size (by sl_kernel_rfl)
    · exact congrArg (fun a => k0_pay1 (F := Ideal) a (iblk m c 3 t)) (pay79_eq _ _ _ _ _)
    · exact pay78_eq _ _ _ _ _

set_option maxHeartbeats 2000000 in
/-- The first point leaves its own product in the accumulator, added to zero. -/
theorem acc_first (c : Dev nD) (t : Fin cfg0.N) (h : t.val % 8 = 0) :
    (outsAt0 m c t.val t.isLt).2.2.2 = k0_pay2 (F := Ideal) (dlAt m c t) (k0_pay4 (F := Ideal)) (xbBlock (iblk m c 0 t) (iblk m c 1 t)) := by
  rw [outsAt0_A m c t h (by omega)]
  frame_out
  rw [readCov_pieces _ _ (xbBlock (iblk m c 0 t) (iblk m c 1 t)) ?hp ?hc]
  case hp =>
    iterate 40 refine ⟨fun x => chunk_piece _ (by decide) _ _ _ x, ?_⟩
    trivial
  case hc => exact View.cover_of_tiledL _ S256x128.size (by sl_kernel_rfl)

  exact congrArg (fun a => k0_pay2 (F := Ideal) a (k0_pay4 (F := Ideal)) (xbBlock (iblk m c 0 t) (iblk m c 1 t))) (pay79_eq _ _ _ _ _)

set_option maxHeartbeats 2000000 in
/-- Every later point adds its product to what the point before left in the accumulator. -/
theorem acc_step (c : Dev nD) (t : Fin cfg0.N) (h : ¬t.val % 8 = 0) :
    (outsAt0 m c t.val t.isLt).2.2.2
      = k0_pay2 (F := Ideal) (dlAt m c t) (outsAt0 m c (t.val - 1) (by omega)).2.2.2 (xbBlock (iblk m c 0 t) (iblk m c 1 t)) := by
  by_cases h1 : t.val % 8 = 7
  on_goal 1 => rw [outsAt0_C m c t h h1]
  on_goal 2 => rw [outsAt0_B m c t h h1]
  all_goals
    frame_out
    rw [readCov_pieces _ _ (xbBlock (iblk m c 0 t) (iblk m c 1 t)) ?hp ?hc]
    case hp =>
      iterate 40 refine ⟨fun x => chunk_piece _ (by decide) _ _ _ x, ?_⟩
      trivial
    case hc => exact View.cover_of_tiledL _ S256x128.size (by sl_kernel_rfl)
    rw [read_unread_whole]
    exact congrArg (fun a => k0_pay2 (F := Ideal) a (outsAt0 m c (t.val - 1) (by omega)).2.2.2 (xbBlock (iblk m c 0 t) (iblk m c 1 t))) (pay79_eq _ _ _ _ _)

set_option maxHeartbeats 2000000 in
/-- The last point stores the accumulator, as it has just left it, transposed. -/
theorem out_last (c : Dev nD) (t : Fin cfg0.N) (h : t.val % 8 = 7) :
    (outsAt0 m c t.val t.isLt).2.1 = k0_pay3 (F := Ideal) (outsAt0 m c t.val t.isLt).2.2.2 := by
  rw [outsAt0_C m c t (by omega) h]
  frame_out

end Cert.KernelIdeal.Value

end
-- ==== Proof.Spec.lean ====
module

public import proofs.«01_k».proof.Proof.Row

/-! # The three results as functions of the five arguments

`codes`, `scales`, `w`, `ids` and `g` are the arguments as they are passed. Row `r` of the 2048 is row `r % 512` of batch
`r / 512`. -/

@[expose] public section

set_option maxRecDepth 16384

noncomputable section

namespace Cert.Spec

open Idealize.ShloMosaic Cert.Row

/-- The batch of a row. -/
abbrev bat (r : Fin 2048) : Fin 4 := ⟨r.val / 512, by omega⟩
/-- The row's place in its batch. -/
abbrev row (r : Fin 2048) : Fin 512 := ⟨r.val % 512, by omega⟩

variable (codes : (⟨3, ![4, 512, 5120]⟩ : Shape).Idx → EReal) (scales : (⟨3, ![4, 512, 160]⟩ : Shape).Idx → EReal)
  (w : (⟨2, ![5120, 128]⟩ : Shape).Idx → EReal) (ids : (⟨3, ![4, 512, 2]⟩ : Shape).Idx → BitVec 32)
  (g : (⟨3, ![4, 512, 2]⟩ : Shape).Idx → EReal)

/-- The dequantized input: the code times the scale of its group of 32 columns. -/
def x (r : Fin 2048) (d : Fin 5120) : EReal :=
  codes (ix3 (bat r) (row r) d) * scales (ix3 (bat r) (row r) ⟨d.val / 32, by omega⟩)

/-- The gradient of the logits. -/
def dl (r : Fin 2048) (e : Fin 128) : EReal :=
  dlRow (logits (x codes scales r) (fun d e => w (ix2 d e))) (ids (ix3 (bat r) (row r) 0)) (ids (ix3 (bat r) (row r) 1))
    (g (ix3 (bat r) (row r) 0)) (g (ix3 (bat r) (row r) 1)) e

/-- The gradient of the input. -/
def dx (r : Fin 2048) (d : Fin 5120) : EReal := ∑ e : Fin 128, dl codes scales w ids g r e * w (ix2 d e)

/-- The gradient of the weights. -/
def dw (d : Fin 5120) (e : Fin 128) : EReal := ∑ r : Fin 2048, x codes scales r d * dl codes scales w ids g r e

end Cert.Spec

end
-- ==== Proof.KernelRows.lean ====
module

public import proofs.«01_k».proof.Proof.BlockOuts
public import proofs.«01_k».proof.Proof.Spec

/-! # The kernel's blocks at the arguments the program started with

Point `t` works on rows `256 t` to `256 t + 255`. -/

@[expose] public section

set_option maxRecDepth 16384

noncomputable section

namespace Cert.KernelIdeal.Value

open Idealize.ShloMosaic Idealize.ShloMosaic.TcCoe Cert.KernelIdeal Cert.KernelIdeal.Gen Cert.Row
open Idealize.ShloMosaic.Pipeline (Dat)

variable (m : (ℓ : Loc nD τ sig) → Buf (Elt Ideal) ℓ)

/-- Point `t` takes block `t` of the row-wise inputs and the weights whole. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- There are eight points. -/
theorem lt8 (t : Fin cfg0.N) : t.val < 8 := lt_of_lt_of_eq t.isLt N_0

/-- Row `r` of point `t`'s block, among all rows. -/
abbrev grow (t : Fin cfg0.N) (r : Fin 256) : Fin 2048 := ⟨t.val * 256 + r.val, by have := lt8 t; omega⟩

/-- The dequantized block is the block's rows of the dequantized input. -/
theorem x_staged (c : Dev nD) (t : Fin cfg0.N) (r : Fin 256) (d : Fin 5120) :
    xbBlock (iblk m c 0 t) (iblk m c 1 t) (ix2 r d)
      = Spec.x (m ((c : Thread nD τ).loc main_arg0)) (m ((c : Thread nD τ).loc main_arg1)) (grow t r) d := by
  have := lt8 t
  unfold Spec.x xbBlock
  blk_point [iblk, V, idx t]

/-- `dlBlock` at row `r` and expert `e`. -/
theorem dlBlock_apply (codes : S256x5120.Idx → EReal) (scales : S256x160.Idx → EReal) (w : S5120x128.Idx → EReal)
    (ids : S256x2.Idx → BitVec 32) (g : S256x2.Idx → EReal) (r : Fin 256) (e : Fin 128) :
    dlBlock codes scales w ids g (ix2 r e) = dlRow (logits (fun d => xbBlock codes scales (ix2 r d)) (fun d e => w (ix2 d e)))
      (ids (ix2 r 0)) (ids (ix2 r 1)) (g (ix2 r 0)) (g (ix2 r 1)) e := rfl

/-- The gradient of the block's logits is that of its rows. -/
theorem dl_staged (c : Dev nD) (t : Fin cfg0.N) (r : Fin 256) (e : Fin 128) :
    dlAt m c t (ix2 r e)
      = Spec.dl (m ((c : Thread nD τ).loc main_arg0)) (m ((c : Thread nD τ).loc main_arg1)) (m ((c : Thread nD τ).loc main_arg2))
          (m ((c : Thread nD τ).loc main_arg3)) (m ((c : Thread nD τ).loc main_arg4)) (grow t r) e := by
  have := lt8 t
  unfold Spec.dl dlAt
  rw [dlBlock_apply, show (fun d => xbBlock (iblk m c 0 t) (iblk m c 1 t) (ix2 r d)) = _ from funext fun d => x_staged m c t r d]
  blk_point [iblk, V, idx t]

/-- The transposed weights are staged from the weights, transposed. -/
theorem wt_staged (c : Dev nD) (t : Fin cfg0.N) (e : Fin 128) (d : Fin 5120) :
    (show S128x5120.Idx → EReal from iblk m c 3 t) (ix2 e d) = (show S5120x128.Idx → EReal from m ((c : Thread nD τ).loc main_arg2)) (ix2 d e) := by
  blk_point [iblk, V, idx t]

end Cert.KernelIdeal.Value

end
-- ==== Proof.KernelValue.lean ====
module

public import proofs.«01_k».proof.Proof.KernelRows

/-! # What the kernel's three result arrays hold

Each is the corresponding function of `Spec` at the arguments the program started with. The gradient of the weights is the
sum over the eight points of what each adds to the accumulator. -/

@[expose] public section

set_option maxRecDepth 16384

noncomputable section

namespace Cert.KernelIdeal.Value

open Idealize.ShloMosaic Idealize.ShloMosaic.TcCoe Cert.KernelIdeal Cert.KernelIdeal.Gen Cert.Row
open Idealize.ShloMosaic.Pipeline (Dat)

variable (m : (ℓ : Loc nD τ sig) → Buf (Elt Ideal) ℓ)

/-- The row-wise results' blocks are written to block `t` at point `t`. -/
theorem oidx : ∀ t : Fin cfg0.N, win0_6.index t = ![t.val, 0] ∧ win0_7.index t = ![0, 0] ∧ win0_8.index t = ![t.val, 0] :=
  (by decide +kernel : ∀ t : Fin grid0.N, _)

/-- Where the blocks of the third result lie in the array. -/
theorem place8 (t : Fin cfg0.N) (r : Fin 256) (e : Fin 128) :
    (win0_8.blk t).view.emb (ix2 r e) 0 = grow t r ∧ (win0_8.blk t).view.emb (ix2 r e) 1 = e := by
  constructor <;> refine Fin.ext ?_ <;> blk_simp [oidx t]

/-- Where the blocks of the first result lie in the array. -/
theorem place6 (t : Fin cfg0.N) (r : Fin 256) (d : Fin 5120) :
    (win0_6.blk t).view.emb (ix2 r d) 0 = grow t r ∧ (win0_6.blk t).view.emb (ix2 r d) 1 = d := by
  constructor <;> refine Fin.ext ?_ <;> blk_simp [oidx t]

/-- The third result is the gradient of the logits. -/
theorem value8 (c : Dev nD) : (dats m 0 c).arrAt 8 (cfgs 0).N = fun i : S2048x128.Idx =>
    Spec.dl (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_covers 8 _ (by decide +kernel) fun t hf y => ?_
  idx_vars y
  blk_simp
  rw [after0_8, (outs_rows m c t).2]
  exact (dl_staged m c t y0 y1).trans (congr (congrArg _ (place8 t y0 y1).1.symm) (place8 t y0 y1).2.symm)

/-- The first product of point `t` is the gradient of the input at the block's rows. -/
theorem dx_staged (c : Dev nD) (t : Fin cfg0.N) (r : Fin 256) (d : Fin 5120) :
    k0_pay1 (F := Ideal) (dlAt m c t) (iblk m c 3 t) (ix2 r d)
      = Spec.dx (m ((c : Thread nD τ).loc main_arg0)) (m ((c : Thread nD τ).loc main_arg1)) (m ((c : Thread nD τ).loc main_arg2))
          (m ((c : Thread nD τ).loc main_arg3)) (m ((c : Thread nD τ).loc main_arg4)) (grow t r) d := by
  refine (pay1_apply _ _ _).trans (Finset.sum_congr rfl fun e _ => ?_)
  exact congr (congrArg _ (dl_staged m c t r e)) (wt_staged m c t e d)

/-- The first result is the gradient of the input. -/
theorem value6 (c : Dev nD) : (dats m 0 c).arrAt 6 (cfgs 0).N = fun i : S2048x5120.Idx =>
    Spec.dx (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_covers 6 _ (by decide +kernel) fun t hf y => ?_
  idx_vars y
  blk_simp
  rw [after0_6, (outs_rows m c t).1]
  exact (dx_staged m c t y0 y1).trans (congr (congrArg _ (place6 t y0 y1).1.symm) (place6 t y0 y1).2.symm)

/-- The zeroed accumulator. -/
theorem pay4_apply (y : S128x5120.Idx) : k0_pay4 (F := Ideal) y = (0 : EReal) := by
  pointwise [k0_pay4]

/-- The accumulator at the end: at each expert and column the sum over all rows. -/
theorem acc_last (c : Dev nD) (e : Fin 128) (d : Fin 5120) :
    (outsAt0 m c t0_7.val t0_7.isLt).2.2.2 (ix2 e d)
      = Spec.dw (m ((c : Thread nD τ).loc main_arg0)) (m ((c : Thread nD τ).loc main_arg1)) (m ((c : Thread nD τ).loc main_arg2))
          (m ((c : Thread nD τ).loc main_arg3)) (m ((c : Thread nD τ).loc main_arg4)) d e := by
  rw [Pipeline.eq_sum_fin_of_reset_step_apply_last (fun n h => (outsAt0 m c n h).2.2.2) 8 (fun _ => 0)
    (fun t y => ∑ r : Fin 256, (dlAt m c t (ix2 r (y 0)) * xbBlock (iblk m c 0 t) (iblk m c 1 t) (ix2 r (y 1)) : EReal))
    (fun t h y => by rw [acc_first m c t h, pay2_apply, pay4_apply])
    (fun t h y => by rw [acc_step m c t h, pay2_apply])
    (le_of_eq N_0) t0_7 rfl (ix2 e d), zero_add]
  unfold Spec.dw
  exact Fin.sum_mul_add_congr (fun t r _ => (congr (congrArg _ (dl_staged m c t r e)) (x_staged m c t r d)).trans (mul_comm _ _)) rfl

/-- The second result is the gradient of the weights. -/
theorem value7 (c : Dev nD) : (dats m 0 c).arrAt 7 (cfgs 0).N = fun i : S5120x128.Idx =>
    Spec.dw (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_after_last 7 t0_7 (by decide +kernel) _ fun j => ?_
  idx_vars j
  blk_simp
  rw [after0_7, out_last m c t0_7 (by decide)]
  refine Eq.trans ?_ (acc_last m c j1 j0)
  pointwise [k0_pay3]

end Cert.KernelIdeal.Value

end
-- ==== Proof.RefRows.lean ====
module

public import proofs.«01_k».proof.Proof.Gen.ReferenceIdeal.Skeleton
public import proofs.«01_k».proof.Proof.Row

/-! # What the reference computes, row by row

The payloads of the reference's three stores, read at an index, as the row functions of `Row`. -/

@[expose] public section

set_option maxRecDepth 16384

noncomputable section

namespace Cert.ReferenceIdeal.Value

open Idealize.ShloMosaic Cert.ReferenceIdeal Cert.ReferenceIdeal.Gen Cert.Row

variable (codes scales : S2048x5120.Idx → EReal) (w : S5120x128.Idx → EReal) (ids : S2048x2.Idx → BitVec 32) (g : S2048x2.Idx → EReal)

/-- The logits of row `r`. -/
abbrev lrow (r : Fin 2048) : Fin 128 → EReal := logits (fun d => codes (ix2 r d) * scales (ix2 r d)) (fun d e => w (ix2 d e))

/-- The gradient of chosen expert `k`'s logit in row `r`. -/
theorem pay7_apply (r : Fin 2048) (k : Fin 2) :
    k0_pay7 (F := Ideal) codes scales w ids g (ix3 r k 0)
      = dsel (pick (lrow codes scales w r) (ids (ix2 r 0))) (pick (lrow codes scales w r) (ids (ix2 r 1))) (g (ix2 r 0)) (g (ix2 r 1))
          (pick (lrow codes scales w r) (ids (ix2 r k))) (g (ix2 r k)) := by
  pointwise [k0_pay7, k0_pay6, k0_pay5]
  simp only [max_fold_two, Fin.sum_univ_two]
  rfl

/-- The gradient of the logits. -/
theorem pay1_apply (r : Fin 2048) (e : Fin 128) :
    k0_pay1 (F := Ideal) (k0_pay6 (F := Ideal) ids) (k0_pay7 (F := Ideal) codes scales w ids g) (Scalar.ofBits .f32 0x00000000#32) (ix2 r e)
      = dlRow (lrow codes scales w r) (ids (ix2 r 0)) (ids (ix2 r 1)) (g (ix2 r 0)) (g (ix2 r 1)) e := by
  pointwise [k0_pay1, k0_pay6]
  rw [Fin.sum_univ_two, pay7_apply, pay7_apply]
  rfl

/-- The gradient of the input: the product of the logits' gradient with the weights, over the experts. -/
theorem pay3_apply (a : IVec S2048x2x128 1) (b : FVec Ideal S2048x2x1 .f32) (z : Ideal .f32) (v : S5120x128.Idx → EReal) (r : Fin 2048) (d : Fin 5120) :
    k0_pay3 (F := Ideal) a b z v (ix2 r d) = (∑ e : Fin 128, k0_pay1 (F := Ideal) a b z (ix2 r e) * v (ix2 d e) : EReal) := by
  pointwise [k0_pay3, k0_pay2]

/-- The gradient of the weights: the product of the dequantized input with the logits' gradient, over the rows. -/
theorem pay4_apply (v : S2048x5120.Idx → EReal) (a : IVec S2048x2x128 1) (b : FVec Ideal S2048x2x1 .f32) (z : Ideal .f32) (d : Fin 5120) (e : Fin 128) :
    k0_pay4 (F := Ideal) v a b z (ix2 d e) = (∑ r : Fin 2048, v (ix2 r d) * k0_pay1 (F := Ideal) a b z (ix2 r e) : EReal) := by
  pointwise [k0_pay4, k0_pay2]

end Cert.ReferenceIdeal.Value

end
-- ==== Proof.RefValue.lean ====
module

public import proofs.«01_k».proof.Proof.Gen.ReferenceIdeal.Value
public import proofs.«01_k».proof.Proof.RefRows
public import proofs.«01_k».proof.Proof.Spec

/-! # What the reference's three result arrays hold

Each is the corresponding function of `Spec` at the arguments the program started with. -/

@[expose] public section

set_option maxRecDepth 16384

noncomputable section

namespace Cert.ReferenceIdeal.Value

open Idealize.ShloMosaic Idealize.ShloMosaic.TcCoe Cert.ReferenceIdeal Cert.ReferenceIdeal.Gen Cert.Row
open Idealize.ShloMosaic.Pipeline (Dat)

variable (m : (ℓ : Loc nD τ sig) → Buf (Elt Ideal) ℓ)

/-- Every input is staged whole: its block has number 0 on both axes. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The one-hot rows of the ids, read from their whole staged block. -/
theorem pay8_eq (x0 x1 : S2048x5120.Idx → EReal) (x2 : S5120x128.Idx → EReal) (x3 : S2048x2.Idx → BitVec 32) (x4 : S2048x2.Idx → EReal) :
    k0_pay8 (F := Ideal) x0 x1 x2 x3 x4 = k0_pay6 (F := Ideal) x3 := by
  unfold k0_pay8
  exact congrArg (k0_pay6 (F := Ideal)) (View.ld_unit_lit _ _ (by decide))

/-- The gradients of the chosen experts' logits, read from whole staged blocks. -/
theorem pay9_eq (x0 x1 : S2048x5120.Idx → EReal) (x2 : S5120x128.Idx → EReal) (x3 : S2048x2.Idx → BitVec 32) (x4 : S2048x2.Idx → EReal) :
    k0_pay9 (F := Ideal) x0 x1 x2 x3 x4 = k0_pay7 (F := Ideal) x0 x1 x2 x3 x4 := by
  unfold k0_pay9
  rw [show View.ld (Val := Elt Ideal) (e' := .fp8e4m3) x0 r0_0 = x0 from View.ld_unit_lit _ _ (by decide),
    show View.ld (Val := Elt Ideal) (e' := .f32) x1 r0_0 = x1 from View.ld_unit_lit _ _ (by decide),
    show View.ld (Val := Elt Ideal) (e' := .bf16) x2 r0_1 = x2 from View.ld_unit_lit _ _ (by decide),
    show View.ld (Val := Elt Ideal) (e' := .i32) x3 r0_2 = x3 from View.ld_unit_lit _ _ (by decide),
    show View.ld (Val := Elt Ideal) (e' := .bf16) x4 r0_2 = x4 from View.ld_unit_lit _ _ (by decide)]

/-- The gradient of the logits as the reference's body computes it at point `t`. -/
abbrev dlAt (c : Dev nD) (t : Fin cfg0.N) : FVec Ideal S2048x128 .f32 :=
  k0_pay1 (F := Ideal) (k0_pay8 (iblk m c 0 t) (iblk m c 1 t) (iblk m c 2 t) (iblk m c 3 t) (iblk m c 4 t))
    (k0_pay9 (iblk m c 0 t) (iblk m c 1 t) (iblk m c 2 t) (iblk m c 3 t) (iblk m c 4 t)) (FloatOps.ofBits .f32 0x00000000#32)

/-- It is `Spec.dl` at the arguments. -/
theorem dl_staged (c : Dev nD) (t : Fin cfg0.N) (r : Fin 2048) (e : Fin 128) :
    dlAt m c t (ix2 r e)
      = Spec.dl (m ((c : Thread nD τ).loc main_arg0)) (m ((c : Thread nD τ).loc main_arg1)) (m ((c : Thread nD τ).loc main_arg2))
          (m ((c : Thread nD τ).loc main_arg3)) (m ((c : Thread nD τ).loc main_arg4)) r e := by
  unfold dlAt
  rw [pay8_eq, pay9_eq]
  refine (pay1_apply _ _ _ _ _ r e).trans ?_
  unfold Spec.dl lrow Spec.x
  blk_point [iblk, V, idx t]

/-- The dequantized input, from the reference's staged arguments. -/
theorem x_staged (c : Dev nD) (t : Fin cfg0.N) (r : Fin 2048) (d : Fin 5120) :
    k0_pay5 (F := Ideal) (iblk m c 0 t) (iblk m c 1 t) (ix2 r d)
      = Spec.x (m ((c : Thread nD τ).loc main_arg0)) (m ((c : Thread nD τ).loc main_arg1)) r d := by
  unfold Spec.x
  pointwise [k0_pay5]
  blk_point [iblk, V, idx t]

/-- The weights are staged as they are. -/
theorem w_staged (c : Dev nD) (t : Fin cfg0.N) (d : Fin 5120) (e : Fin 128) :
    (show S5120x128.Idx → EReal from iblk m c 2 t) (ix2 d e) = (show S5120x128.Idx → EReal from m ((c : Thread nD τ).loc main_arg2)) (ix2 d e) := by
  blk_point [iblk, V, idx t]

/-- The third result is the gradient of the logits. -/
theorem final7 (c : Dev nD) : (dats m 0 c).arrAt 7 (cfgs 0).N = fun i : S2048x128.Idx =>
    Spec.dl (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_after_last 7 t0_0 (by decide +kernel) _ fun j => ?_
  idx_vars j
  blk_simp
  rw [after0_7]
  frame_out
  exact dl_staged m c t0_0 _ _

/-- The first result is the gradient of the input. -/
theorem final5 (c : Dev nD) : (dats m 0 c).arrAt 5 (cfgs 0).N = fun i : S2048x5120.Idx =>
    Spec.dx (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_after_last 5 t0_0 (by decide +kernel) _ fun j => ?_
  idx_vars j
  blk_simp
  rw [after0_5]
  frame_out
  refine (pay3_apply _ _ _ _ _ _).trans (Finset.sum_congr rfl fun e _ => ?_)
  exact congr (congrArg _ (dl_staged m c t0_0 j0 e)) (w_staged m c t0_0 j1 e)

/-- The second result is the gradient of the weights. -/
theorem final6 (c : Dev nD) : (dats m 0 c).arrAt 6 (cfgs 0).N = fun i : S5120x128.Idx =>
    Spec.dw (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_after_last 6 t0_0 (by decide +kernel) _ fun j => ?_
  idx_vars j
  blk_simp
  rw [after0_6]
  frame_out
  refine (pay4_apply _ _ _ _ _ _).trans (Finset.sum_congr rfl fun r _ => ?_)
  exact congr (congrArg _ (x_staged m c t0_0 r j0)) (dl_staged m c t0_0 r j1)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The claim: every run of the kernel, as printed and idealized, and of the reference ends quietly with the arguments kept;
    the idealized kernel is the kernel; and from equal arguments the kernel's gradients of the input, the weights and the logits
    equal the reference's. -/
theorem claim : Cert.Claim := by
  refine ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, fun m g m' g' _ hargs => ?_⟩
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g,
    (θ_run _ _ _).mono (fun r h c => ?_) (Cert.ReferenceIdeal.Value.run_blocks m' g')⟩
  obtain ⟨h0, h1, h2, hk⟩ := h c
  obtain ⟨a0, a1, a2, a3, a4⟩ := hargs c
  refine ⟨h0.trans ((Cert.ReferenceIdeal.Value.final5 m' c).trans (Eq.trans ?_ (Cert.KernelIdeal.Value.value6 m c).symm)),
    h1.trans ((Cert.ReferenceIdeal.Value.final6 m' c).trans (Eq.trans ?_ (Cert.KernelIdeal.Value.value7 m c).symm)),
    h2.trans ((Cert.ReferenceIdeal.Value.final7 m' c).trans (Eq.trans ?_ (Cert.KernelIdeal.Value.value8 m c).symm)), hk⟩
  all_goals rw [a0, a1, a2, a3, a4]

end Cert.Proof

end
